-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x192x224x224 : Shape := ⟨4, ![4, 192, 224, 224]⟩
abbrev S4x784 : Shape := ⟨2, ![4, 784]⟩
abbrev S4x1x784 : Shape := ⟨3, ![4, 1, 784]⟩
abbrev S4x784x1 : Shape := ⟨3, ![4, 784, 1]⟩
abbrev S1x1x784 : Shape := ⟨3, ![1, 1, 784]⟩
abbrev S1x784x1 : Shape := ⟨3, ![1, 784, 1]⟩
abbrev S1x64x224x224 : Shape := ⟨4, ![1, 64, 224, 224]⟩
abbrev S224x224 : Shape := ⟨2, ![224, 224]⟩
abbrev S1x784 : Shape := ⟨2, ![1, 784]⟩
abbrev S784x1 : Shape := ⟨2, ![784, 1]⟩
abbrev S784x784 : Shape := ⟨2, ![784, 784]⟩
abbrev S784 : Shape := ⟨1, ![784]⟩
abbrev S224x784 : Shape := ⟨2, ![224, 784]⟩
abbrev S784x224 : Shape := ⟨2, ![784, 224]⟩
abbrev S1x1x224x224 : Shape := ⟨4, ![1, 1, 224, 224]⟩

abbrev nBuf : Space → Nat
  | .hbm => 7
  | .vmem => 11
  | .smem => 0
  | _ => 0

abbrev bufTy : (tb : Table) → Fin (tcTables nBuf tb) → BufTy
  | .hbm, ⟨0, _⟩ => ⟨S4x192x224x224, .f32⟩
  | .hbm, ⟨1, _⟩ => ⟨S4x784, .f32⟩
  | .hbm, ⟨2, _⟩ => ⟨S4x1x784, .f32⟩
  | .hbm, ⟨3, _⟩ => ⟨S4x784x1, .f32⟩
  | .hbm, ⟨4, _⟩ => ⟨S4x192x224x224, .f32⟩
  | .hbm, ⟨5, _⟩ => ⟨S4x1x784, .f32⟩
  | .hbm, ⟨6, _⟩ => ⟨S4x784, .f32⟩
  | .local _ .vmem, ⟨0, _⟩ => ⟨S1x1x784, .f32⟩
  | .local _ .vmem, ⟨1, _⟩ => ⟨S1x1x784, .f32⟩
  | .local _ .vmem, ⟨2, _⟩ => ⟨S1x784x1, .f32⟩
  | .local _ .vmem, ⟨3, _⟩ => ⟨S1x784x1, .f32⟩
  | .local _ .vmem, ⟨4, _⟩ => ⟨S1x64x224x224, .f32⟩
  | .local _ .vmem, ⟨5, _⟩ => ⟨S1x64x224x224, .f32⟩
  | .local _ .vmem, ⟨6, _⟩ => ⟨S1x64x224x224, .f32⟩
  | .local _ .vmem, ⟨7, _⟩ => ⟨S1x64x224x224, .f32⟩
  | .local _ .vmem, ⟨8, _⟩ => ⟨S1x1x784, .f32⟩
  | .local _ .vmem, ⟨9, _⟩ => ⟨S1x1x784, .f32⟩
  | .local _ .vmem, ⟨10, _⟩ => ⟨S224x224, .f32⟩
  | _, _ => ⟨S4x192x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x784x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x224x224 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x224x224 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x784 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S4x192x224x224 : Shape := ⟨4, ![4, 192, 224, 224]⟩
abbrev S4x784 : Shape := ⟨2, ![4, 784]⟩
abbrev S4x192x28x8x28x8 : Shape := ⟨6, ![4, 192, 28, 8, 28, 8]⟩
abbrev S4x28x28x8x8x192 : Shape := ⟨6, ![4, 28, 28, 8, 8, 192]⟩
abbrev S4x784x12288 : Shape := ⟨3, ![4, 784, 12288]⟩
abbrev S784 : Shape := ⟨1, ![784]⟩
abbrev S1x784 : Shape := ⟨2, ![1, 784]⟩
abbrev S_ : Shape := ⟨0, ![]⟩
abbrev S4x784x1 : Shape := ⟨3, ![4, 784, 1]⟩
abbrev S1 : Shape := ⟨1, ![1]⟩
abbrev S1x1x1 : Shape := ⟨3, ![1, 1, 1]⟩

abbrev nBuf : Space → Nat
  | .hbm => 46
  | .vmem => 0
  | .smem => 0
  | _ => 0

abbrev bufTy : (tb : Table) → Fin (tcTables nBuf tb) → BufTy
  | .hbm, ⟨0, _⟩ => ⟨S4x192x224x224, .f32⟩
  | .hbm, ⟨1, _⟩ => ⟨S4x784, .f32⟩
  | .hbm, ⟨2, _⟩ => ⟨S4x192x28x8x28x8, .f32⟩
  | .hbm, ⟨3, _⟩ => ⟨S4x28x28x8x8x192, .f32⟩
  | .hbm, ⟨4, _⟩ => ⟨S4x784x12288, .f32⟩
  | .hbm, ⟨5, _⟩ => ⟨S4x784, .i32⟩
  | .hbm, ⟨6, _⟩ => ⟨S4x784, .f32⟩
  | .hbm, ⟨7, _⟩ => ⟨S4x784, .i32⟩
  | .hbm, ⟨8, _⟩ => ⟨S784, .i32⟩
  | .hbm, ⟨9, _⟩ => ⟨S1x784, .i32⟩
  | .hbm, ⟨10, _⟩ => ⟨S_, .i32⟩
  | .hbm, ⟨11, _⟩ => ⟨S1x784, .i32⟩
  | .hbm, ⟨12, _⟩ => ⟨S1x784, .i1⟩
  | .hbm, ⟨13, _⟩ => ⟨S1x784, .f32⟩
  | .hbm, ⟨14, _⟩ => ⟨S4x784, .f32⟩
  | .hbm, ⟨15, _⟩ => ⟨S4x784, .i32⟩
  | .hbm, ⟨16, _⟩ => ⟨S4x784, .i32⟩
  | .hbm, ⟨17, _⟩ => ⟨S4x784, .i32⟩
  | .hbm, ⟨18, _⟩ => ⟨S_, .i32⟩
  | .hbm, ⟨19, _⟩ => ⟨S4x784, .i32⟩
  | .hbm, ⟨20, _⟩ => ⟨S4x784, .i1⟩
  | .hbm, ⟨21, _⟩ => ⟨S_, .i32⟩
  | .hbm, ⟨22, _⟩ => ⟨S4x784, .i32⟩
  | .hbm, ⟨23, _⟩ => ⟨S4x784, .i32⟩
  | .hbm, ⟨24, _⟩ => ⟨S4x784, .i32⟩
  | .hbm, ⟨25, _⟩ => ⟨S4x784x1, .i32⟩
  | .hbm, ⟨26, _⟩ => ⟨S1, .i32⟩
  | .hbm, ⟨27, _⟩ => ⟨S_, .i32⟩
  | .hbm, ⟨28, _⟩ => ⟨S4x784x1, .i32⟩
  | .hbm, ⟨29, _⟩ => ⟨S4x784x1, .i1⟩
  | .hbm, ⟨30, _⟩ => ⟨S1x1x1, .i32⟩
  | .hbm, ⟨31, _⟩ => ⟨S4x784x1, .i32⟩
  | .hbm, ⟨32, _⟩ => ⟨S4x784x1, .i1⟩
  | .hbm, ⟨33, _⟩ => ⟨S4x784x1, .i1⟩
  | .hbm, ⟨34, _⟩ => ⟨S_, .i1⟩
  | .hbm, ⟨35, _⟩ => ⟨S4x784, .i1⟩
  | .hbm, ⟨36, _⟩ => ⟨S4x784, .f32⟩
  | .hbm, ⟨37, _⟩ => ⟨S_, .f32⟩
  | .hbm, ⟨38, _⟩ => ⟨S4x784, .f32⟩
  | .hbm, ⟨39, _⟩ => ⟨S4x784, .f32⟩
  | .hbm, ⟨40, _⟩ => ⟨S4x784x1, .f32⟩
  | .hbm, ⟨41, _⟩ => ⟨S4x784x12288, .f32⟩
  | .hbm, ⟨42, _⟩ => ⟨S4x784x12288, .f32⟩
  | .hbm, ⟨43, _⟩ => ⟨S4x28x28x8x8x192, .f32⟩
  | .hbm, ⟨44, _⟩ => ⟨S4x192x28x8x28x8, .f32⟩
  | .hbm, ⟨45, _⟩ => ⟨S4x192x224x224, .f32⟩
  | _, _ => ⟨S4x192x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call1_v0 : Ref sig .tc := ⟨.hbm, 15, rfl⟩
abbrev main_call1_v1_0 : Ref sig .tc := ⟨.hbm, 16, rfl⟩
abbrev main_v10 : Ref sig .tc := ⟨.hbm, 17, rfl⟩
abbrev main_call2_c : Ref sig .tc := ⟨.hbm, 18, rfl⟩
abbrev main_call2_v0 : Ref sig .tc := ⟨.hbm, 19, rfl⟩
abbrev main_call2_v1 : Ref sig .tc := ⟨.hbm, 20, rfl⟩
abbrev main_call2_c_0 : Ref sig .tc := ⟨.hbm, 21, rfl⟩
abbrev main_call2_v2 : Ref sig .tc := ⟨.hbm, 22, rfl⟩
abbrev main_call2_v3 : Ref sig .tc := ⟨.hbm, 23, rfl⟩
abbrev main_call2_v4 : Ref sig .tc := ⟨.hbm, 24, rfl⟩
abbrev main_call2_v5 : Ref sig .tc := ⟨.hbm, 25, rfl⟩
abbrev main_call2_c_1 : Ref sig .tc := ⟨.hbm, 26, rfl⟩
abbrev main_call2_c_2 : Ref sig .tc := ⟨.hbm, 27, rfl⟩
abbrev main_call2_v6 : Ref sig .tc := ⟨.hbm, 28, rfl⟩
abbrev main_call2_v7 : Ref sig .tc := ⟨.hbm, 29, rfl⟩
abbrev main_call2_v8 : Ref sig .tc := ⟨.hbm, 30, rfl⟩
abbrev main_call2_v9 : Ref sig .tc := ⟨.hbm, 31, rfl⟩
abbrev main_call2_v10 : Ref sig .tc := ⟨.hbm, 32, rfl⟩
abbrev main_call2_v11 : Ref sig .tc := ⟨.hbm, 33, rfl⟩
abbrev main_call2_c_3 : Ref sig .tc := ⟨.hbm, 34, rfl⟩
abbrev main_call2_v12 : Ref sig .tc := ⟨.hbm, 35, rfl⟩
abbrev main_call2_v13 : Ref sig .tc := ⟨.hbm, 36, rfl⟩
abbrev main_call2_cst : Ref sig .tc := ⟨.hbm, 37, rfl⟩
abbrev main_call2_v14 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩

abbrev nD : Nat := 1
abbrev τ : Topo := Topo.v7x

variable {F : FTy → Type} [FloatOps F]
-- ==== Proof.KRuns.lean ====
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.VecWindow

/-! The kernel's body, run at a grid point: what it leaves in every buffer it touches. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The branch the body takes at the first channel block of an image. -/
abbrev first (i : grid0.Coords) : Prop := k0_cond1 i = 1#1

/-- The 0/1 mask over the patches, as the body computes it from the two copies of an image's noise. -/
def maskRow (x0 : Vec F S1x1x784 .f32) (x1 : Vec F S1x784x1 .f32) : Vec F S1x1x784 .f32 := k0_pay6 x0 x1

/-- The mask spread over the pixels of an image, as the body computes it from the two copies of the noise. -/
def maskImg (x0 : Vec F S1x1x784 .f32) (x1 : Vec F S1x784x1 .f32) : Vec F S224x224 .f32 :=
  k0_pay1 (k0_pay10 (k0_pay9 (iota .tc S224x784 32 [0] iota_S224x784_d0_w32) (iota .tc S224x784 32 [1] iota_S224x784_d1_w32) 28#32 k0_pay8 0#32))
    k0_pay11 (k0_pay12 (k0_pay7 x0 x1))

set_option maxHeartbeats 1000000 in
/-- At the first channel block the body stores the mask, the mask image, and the block of pixels times the mask image. -/
theorem run_first (c : Dev nD) (i : grid0.Coords) (arg2 : Memref sig .tc .vmem S1x1x784 .f32) (harg2 : arg2.IsWhole) (arg3 : Memref sig .tc .vmem S1x784x1 .f32) (harg3 : arg3.IsWhole)
    (arg4 : Memref sig .tc .vmem S1x64x224x224 .f32) (harg4 : arg4.IsWhole) (arg5 : Memref sig .tc .vmem S1x64x224x224 .f32) (harg5 : arg5.IsWhole)
    (arg6 : Memref sig .tc .vmem S1x1x784 .f32) (harg6 : arg6.IsWhole) (arg7 : Memref sig .tc .vmem S224x224 .f32) (harg7 : arg7.IsWhole)
    (hc0 : first i) (x0 : Vec F S1x1x784 .f32) (x1 : Vec F S1x784x1 .f32) (x2 : Vec F S1x64x224x224 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k0_pay2 x2 (maskImg x0 x1)) ∗ owns (c : Thread nD τ) arg6 fullShare (maskRow x0 x1)
            ∗ owns (c : Thread nD τ) arg7 fullShare (maskImg x0 x1)) -∗ K ⟨⟩))
      ⊢ wp frame (wpE (defs₀ (F := F)) Variants.none c none) E (cc0__fused_kernel i arg2 harg2 arg3 harg3 arg4 harg4 arg5 harg5 arg6 harg6 arg7 harg7) K := by
  simp only [cc0__fused_kernel_eq_skeleton]; unfold cc0__fused_kernel_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, Hk⟩
  obtain rfl := harg2.eq_unread hf0; obtain rfl := harg3.eq_unread hf1; obtain rfl := harg4.eq_unread hf2
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  have e0 := (View.readAt_full (Val := Elt F) arg2.view _ inb_S1x1x784_S1x1x784_0_0_0).trans hf0
  have e1 := (View.readAt_full (Val := Elt F) arg3.view _ inb_S1x784x1_S1x784x1_0_0_0).trans hf1
  have e2 := (View.readAt_full (Val := Elt F) arg4.view _ inb_S1x64x224x224_S1x64x224x224_0_0_0_0).trans hf2
  have ei : k0_pay1 (k0_pay10 run_first.sl.r_1) k0_pay11 (run_first.sl.r_2 c arg2 harg2 arg3 harg3 x0 x1) = maskImg x0 x1 := by
    unfold run_first.sl.r_2 run_first.sl.r; rw [e0, e1]; rfl
  have es : run_first.sl.v4 c arg2 harg2 arg3 harg3 arg7 x0 x1 = maskImg x0 x1 := by
    unfold run_first.sl.v4 run_first.sl.HS0_1
    exact (View.readCov_full _ _ _ _ _).trans ei
  isplitl [H3]
  · iexists _; isplitr
    swap; · iexact H3
    ipureintro
    refine (View.read_writes_full _ _ _ _ _).trans ?_
    rw [es]; unfold run_first.sl.v3
    exact congrArg (k0_pay2 · (maskImg x0 x1)) e2
  isplitl [H4]
  · iexists _; isplitr
    swap; · iexact H4
    ipureintro
    refine (View.read_writes_full _ _ _ _ _).trans ?_
    exact congrArg₂ k0_pay6 e0 e1
  iexists _; isplitr
  swap; · iexact HS0
  ipureintro
  unfold run_first.sl.HS0_1
  exact (View.read_writes_full _ _ _ _ _).trans ei

set_option maxHeartbeats 1000000 in
/-- At a later channel block the body stores only the block of pixels times the mask image it finds in its scratch. -/
theorem run_later (c : Dev nD) (i : grid0.Coords) (arg2 : Memref sig .tc .vmem S1x1x784 .f32) (harg2 : arg2.IsWhole) (arg3 : Memref sig .tc .vmem S1x784x1 .f32) (harg3 : arg3.IsWhole)
    (arg4 : Memref sig .tc .vmem S1x64x224x224 .f32) (harg4 : arg4.IsWhole) (arg5 : Memref sig .tc .vmem S1x64x224x224 .f32) (harg5 : arg5.IsWhole)
    (arg6 : Memref sig .tc .vmem S1x1x784 .f32) (harg6 : arg6.IsWhole) (arg7 : Memref sig .tc .vmem S224x224 .f32) (harg7 : arg7.IsWhole)
    (hc0 : ¬first i) (x0 : Vec F S1x1x784 .f32) (x1 : Vec F S1x784x1 .f32) (x2 : Vec F S1x64x224x224 .f32)
    (xo : Vec F S1x1x784 .f32) (xs : Vec F S224x224 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xo ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k0_pay2 x2 xs) ∗ owns (c : Thread nD τ) arg6 fullShare xo
            ∗ owns (c : Thread nD τ) arg7 fullShare xs) -∗ K ⟨⟩))
      ⊢ wp frame (wpE (defs₀ (F := F)) Variants.none c none) E (cc0__fused_kernel i arg2 harg2 arg3 harg3 arg4 harg4 arg5 harg5 arg6 harg6 arg7 harg7) K := by
  simp only [cc0__fused_kernel_eq_skeleton]; unfold cc0__fused_kernel_skel
  unfold owns
  iintro ⟨⟨%f0, %hf0, H0⟩, ⟨%f1, %hf1, H1⟩, ⟨%f2, %hf2, H2⟩, ⟨%d3, %f3, -, H3⟩, ⟨%f4, %hf4, H4⟩, ⟨%fs0, %hfs0, HS0⟩, Hk⟩
  obtain rfl := harg4.eq_unread hf2; obtain rfl := harg7.eq_unread hfs0
  sl_exec (disch := first | sl_exact hc0)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact harg4.read_unread _
    iexact H2
  isplitl [H3]
  · iexists _; isplitr
    swap; · iexact H3
    ipureintro
    refine (View.read_writes_full _ _ _ _ _).trans ?_
    exact congrArg₂ k0_pay2 ((View.readAt_full (Val := Elt F) arg4.view _ inb_S1x64x224x224_S1x64x224x224_0_0_0_0).trans hf2)
      ((View.readAt_full (Val := Elt F) arg7.view _ inb_S224x224_S224x224_0_0).trans hfs0)
  isplitl [H4]
  · iexists _; isplitr; · ipureintro; exact hf4
    iexact H4
  iexists _; isplitr; · ipureintro; exact harg7.read_unread _
  iexact HS0

end Cert.KernelIdeal.Hand

end
-- ==== Proof.KLaunch.lean ====
module

public import proofs.«01_k».proof.Proof.KRuns
public import Idealize.ShloMosaic.Lib.Claim
public import Idealize.ShloMosaic.Lib.Pipeline.TableIdle

/-! The kernel's launch: what every buffer holds after each grid point, and the run of the whole program with its two outputs named. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid -/

/-- The first channel block of an image is met at the points that are multiples of 3. -/
theorem first_iff : ∀ t : Fin cfg0.N, first (grid0.coords t) ↔ t.val % 3 = 0 :=
  (fun t => by
    have ht : t.val < 12 := Nat.lt_of_lt_of_eq t.isLt N_0
    have e0 : (grid0.coords t 0).val = t.val / 3 % 4 := Pipeline.Grid.coords_val t 0 (by decide) rfl
    have e1 : (grid0.coords t 1).val = t.val / 1 % 3 := Pipeline.Grid.coords_val t 1 (by decide) rfl
    simp only [first, k0_cond1, e0, e1]
    word_cmp
   : ∀ t : Fin grid0.N, first (grid0.coords t) ↔ t.val % 3 = 0)

/-- The windows that the body reads or stores at every point. -/
theorem live (w : Fin cfg0.W) (hw : w ≠ 4) : ∀ t : Fin cfg0.N, cfg0.idle w (grid0.coords t) = false := by
  revert w; decide +kernel

/-- At an image's first channel block the body stores the mask. -/
theorem live_mask : ∀ t : Fin cfg0.N, t.val % 3 = 0 → cfg0.idle 4 (grid0.coords t) = false := by decide +kernel

/-- At a later channel block the body leaves the mask's buffer alone. -/
theorem idle_mask : ∀ t : Fin cfg0.N, ¬t.val % 3 = 0 → cfg0.idle 4 (grid0.coords t) = true := by decide +kernel

/-- The mask's buffer has been stored into, and not yet written back, before a later channel block. -/
def freshAt : ℕ → Bool
  | 0 => true
  | n + 1 => (n + 1) % 3 == 0
theorem freshAt_step : ∀ t : Fin cfg0.N,
    freshAt (t.val + 1) = ((cfg0.win 4).flush t || (cfg0.idle 4 (cfg0.grid.coords t) && freshAt t.val)) := by decide +kernel
theorem not_fresh (t : Fin cfg0.N) (h : ¬t.val % 3 = 0) : cfg0.fresh 4 t.val = false := by
  rw [Pipeline.Cfg.fresh_tab cfg0 4 freshAt rfl freshAt_step t.val (Nat.le_of_lt t.isLt)]
  cases hn : t.val with
  | zero => exact absurd (by rw [hn]) h
  | succ n => rw [hn] at h; exact beq_eq_false_iff_ne.mpr h

/-- The first noise window's block at a point is the point's image. -/
theorem index0_eq : ∀ t : Fin cfg0.N, win0_0.index t (0 : Fin 3) = t.val / 3 ∧ win0_0.index t (1 : Fin 3) = 0 ∧ win0_0.index t (2 : Fin 3) = 0 :=
  (by decide +kernel : ∀ t : Fin grid0.N, _)
/-- The second noise window's block at a point is the point's image. -/
theorem index1_eq : ∀ t : Fin cfg0.N, win0_1.index t (0 : Fin 3) = t.val / 3 ∧ win0_1.index t (1 : Fin 3) = 0 ∧ win0_1.index t (2 : Fin 3) = 0 :=
  (by decide +kernel : ∀ t : Fin grid0.N, _)

/-- Within an image the first noise window does not move. -/
theorem iblk0_prev (c : Dev nD) (t t' : Fin cfg0.N) (h : t.val / 3 = t'.val / 3) : iblk m c 0 t = iblk m c 0 t' := by
  have e := index0_eq t
  have e' := index0_eq t'
  funext y
  have h0 : (((cfg0.win 0).blk t).view.emb y 0).val = win0_0.index t (0 : Fin 3) * 1 + 1 * (y 0).val := rfl
  have h1 : (((cfg0.win 0).blk t).view.emb y 1).val = win0_0.index t (1 : Fin 3) * 1 + 1 * (y 1).val := rfl
  have h2 : (((cfg0.win 0).blk t).view.emb y 2).val = win0_0.index t (2 : Fin 3) * 784 + 1 * (y 2).val := rfl
  have h0' : (((cfg0.win 0).blk t').view.emb y 0).val = win0_0.index t' (0 : Fin 3) * 1 + 1 * (y 0).val := rfl
  have h1' : (((cfg0.win 0).blk t').view.emb y 1).val = win0_0.index t' (1 : Fin 3) * 1 + 1 * (y 1).val := rfl
  have h2' : (((cfg0.win 0).blk t').view.emb y 2).val = win0_0.index t' (2 : Fin 3) * 784 + 1 * (y 2).val := rfl
  refine congrArg (V m c (Pipeline.arrRef spec0 0)) (funext fun a => Fin.ext ?_)
  match a with
  | ⟨0, _⟩ => show (((cfg0.win 0).blk t).view.emb y 0).val = (((cfg0.win 0).blk t').view.emb y 0).val; rw [h0, h0', e.1, e'.1, h]
  | ⟨1, _⟩ => show (((cfg0.win 0).blk t).view.emb y 1).val = (((cfg0.win 0).blk t').view.emb y 1).val; rw [h1, h1', e.2.1, e'.2.1]
  | ⟨2, _⟩ => show (((cfg0.win 0).blk t).view.emb y 2).val = (((cfg0.win 0).blk t').view.emb y 2).val; rw [h2, h2', e.2.2, e'.2.2]

/-- Within an image the second noise window does not move. -/
theorem iblk1_prev (c : Dev nD) (t t' : Fin cfg0.N) (h : t.val / 3 = t'.val / 3) : iblk m c 1 t = iblk m c 1 t' := by
  have e := index1_eq t
  have e' := index1_eq t'
  funext y
  have h0 : (((cfg0.win 1).blk t).view.emb y 0).val = win0_1.index t (0 : Fin 3) * 1 + 1 * (y 0).val := rfl
  have h1 : (((cfg0.win 1).blk t).view.emb y 1).val = win0_1.index t (1 : Fin 3) * 784 + 1 * (y 1).val := rfl
  have h2 : (((cfg0.win 1).blk t).view.emb y 2).val = win0_1.index t (2 : Fin 3) * 1 + 1 * (y 2).val := rfl
  have h0' : (((cfg0.win 1).blk t').view.emb y 0).val = win0_1.index t' (0 : Fin 3) * 1 + 1 * (y 0).val := rfl
  have h1' : (((cfg0.win 1).blk t').view.emb y 1).val = win0_1.index t' (1 : Fin 3) * 784 + 1 * (y 1).val := rfl
  have h2' : (((cfg0.win 1).blk t').view.emb y 2).val = win0_1.index t' (2 : Fin 3) * 1 + 1 * (y 2).val := rfl
  refine congrArg (V m c (Pipeline.arrRef spec0 1)) (funext fun a => Fin.ext ?_)
  match a with
  | ⟨0, _⟩ => show (((cfg0.win 1).blk t).view.emb y 0).val = (((cfg0.win 1).blk t').view.emb y 0).val; rw [h0, h0', e.1, e'.1, h]
  | ⟨1, _⟩ => show (((cfg0.win 1).blk t).view.emb y 1).val = (((cfg0.win 1).blk t').view.emb y 1).val; rw [h1, h1', e.2.1, e'.2.1]
  | ⟨2, _⟩ => show (((cfg0.win 1).blk t).view.emb y 2).val = (((cfg0.win 1).blk t').view.emb y 2).val; rw [h2, h2', e.2.2, e'.2.2]

/-! ## The windows' staging memrefs -/

abbrev ms0 (t : Fin cfg0.N) : Memref sig .tc .vmem S1x1x784 .f32 := win0_0.stage (cfg0.slots t 0)
abbrev ms1 (t : Fin cfg0.N) : Memref sig .tc .vmem S1x784x1 .f32 := win0_1.stage (cfg0.slots t 1)
abbrev ms2 (t : Fin cfg0.N) : Memref sig .tc .vmem S1x64x224x224 .f32 := win0_2.stage (cfg0.slots t 2)
abbrev ms3 (t : Fin cfg0.N) : Memref sig .tc .vmem S1x64x224x224 .f32 := win0_3.stage (cfg0.slots t 3)
abbrev ms4 (t : Fin cfg0.N) : Memref sig .tc .vmem S1x1x784 .f32 := win0_4.stage (cfg0.slots t 4)
/-- The scratch that carries the mask image from one channel block to the next. -/
abbrev scr : Memref sig .tc .vmem S224x224 .f32 := Memref.whole cc0_scratch0

/-- What the launch hands the region: the scratch at any contents, and the generator register. -/
theorem PhiA_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

/-! ## What the buffers hold after each point -/

/-- The mask of the image point `t` works on. -/
def maskAt (c : Dev nD) (t : Fin cfg0.N) : Vec F S1x1x784 .f32 := maskRow (iblk m c 0 t) (iblk m c 1 t)
/-- The mask image of the image point `t` works on. -/
def imgAt (c : Dev nD) (t : Fin cfg0.N) : Vec F S224x224 .f32 := maskImg (iblk m c 0 t) (iblk m c 1 t)

/-- The region's invariant: before the first point the scratch holds anything, and after a point that point's mask image. -/
def Phi (c : Dev nD) : (n : ℕ) → n ≤ cfg0.N → sProp 𝕄
  | 0, _ => Pipeline.ΦA spec0 c
  | n + 1, hn => iprop(owns (c : Thread nD τ) scr fullShare (imgAt m c ⟨n, hn⟩) ∗ (∃ r, prngReg c r))

theorem Phi_pos (c : Dev nD) (n : ℕ) (h : n ≤ cfg0.N) (hz : n ≠ 0) :
    Phi m c n h = iprop(owns (c : Thread nD τ) scr fullShare (imgAt m c ⟨n - 1, by omega⟩) ∗ (∃ r, prngReg c r)) := by
  cases n with
  | zero => exact absurd rfl hz
  | succ n => rfl

/-- The proof data of the pipeline on core `c`: the inputs' buffers keep their blocks, the pixels' output holds the block of
    pixels times the mask image, the mask's output the image's mask. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay2 (iblk m c 2 t) (imgAt m c t)
    | ⟨4, _⟩ => maskAt m c t
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]
theorem Phi_castSucc (c : Dev nD) (t : Fin cfg0.N) :
    (dats m 0 c).Φ t.castSucc = Phi m c t.val (Nat.le_of_lt t.isLt) := by
  dsimp only [dats]; exact Pipeline.Dat.Φ_castSucc (Phi m c) t
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = k0_pay2 (iblk m c 2 t) (imgAt m c t) := by dsimp only [dats]
theorem after4 (c : Dev nD) (t : Fin cfg0.N) : (dats m 0 c).after 4 t = maskAt m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- The mask and the mask image do not change within an image. -/
theorem maskAt_prev (c : Dev nD) (t : Fin cfg0.N) (h : ¬t.val % 3 = 0) : maskAt m c ⟨t.val - 1, by omega⟩ = maskAt m c t := by
  unfold maskAt
  rw [iblk0_prev m c t ⟨t.val - 1, by omega⟩ (by show _ = (t.val - 1) / 3; omega), iblk1_prev m c t ⟨t.val - 1, by omega⟩ (by show _ = (t.val - 1) / 3; omega)]
theorem imgAt_prev (c : Dev nD) (t : Fin cfg0.N) (h : ¬t.val % 3 = 0) : imgAt m c ⟨t.val - 1, by omega⟩ = imgAt m c t := by
  unfold imgAt
  rw [iblk0_prev m c t ⟨t.val - 1, by omega⟩ (by show _ = (t.val - 1) / 3; omega), iblk1_prev m c t ⟨t.val - 1, by omega⟩ (by show _ = (t.val - 1) / 3; omega)]

/-- Before a later channel block the mask's buffer still holds the image's mask. -/
theorem before4 (c : Dev nD) (t : Fin cfg0.N) (h : ¬t.val % 3 = 0) (d) : (dats m 0 c).before 4 t d = maskAt m c t := by
  rw [Dat.before_out_traj _ 4 rfl (fun _ _ => rfl) (fun t _ hi _ => by
      by_cases h0 : t.val % 3 = 0
      · rw [live_mask t h0] at hi; exact absurd hi Bool.false_ne_true
      · rw [after4, after4, maskAt_prev m c t h0]) t.val t rfl d,
    if_neg (by rw [not_fresh t h]; exact Bool.false_ne_true), after4, maskAt_prev m c t h]

/-! ## The body's obligation -/

/-- What the body is handed at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- What it hands back. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

/-- A window the body works on is left at the proof data's contents. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- At a later channel block the mask's buffer, held at the mask, is what the pipeline asks back. -/
theorem leaves_mask (c : Dev nD) (t : Fin cfg0.N) (h : ¬t.val % 3 = 0) :
    owns (c : Thread nD τ) (ms4 t) fullShare (maskAt m c t) ⊢ (dats m 0 c).leavesExact 4 t := by
  cases hf : (cfg0.win 4).flush t with
  | true =>
    unfold Dat.leavesExact; rw [idle_mask t h, hf, after4]
  | false =>
    rw [Dat.leavesExact_idle _ 4 t (idle_mask t h) hf]
    iintro H
    iexists (maskAt m c t)
    rw [before4 m c t h]
    iexact H

set_option maxHeartbeats 3200000 in
/-- The body at any point, from what it is handed to what it hands back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = iprop(owns (c : Thread nD τ) scr fullShare (imgAt m c t) ∗ (∃ r, prngReg c r)) from rfl]
  rw [leaves_live m c 0 t (live 0 (by decide) t), leaves_live m c 1 t (live 1 (by decide) t), leaves_live m c 2 t (live 2 (by decide) t),
    leaves_live m c 3 t (live 3 (by decide) t), after0, after1, after2, after3, Phi_castSucc m c t]
  by_cases h0 : t.val % 3 = 0
  · rw [leaves_live m c 4 t (live_mask t h0), after4]
    have hPhi : Phi m c t.val (Nat.le_of_lt t.isLt) ⊢ Pipeline.ΦA spec0 c := by
      by_cases hz : t.val = 0
      · have : ∀ n (h : n ≤ cfg0.N), n = 0 → Phi m c n h = Pipeline.ΦA spec0 c := fun n h e => by subst e; rfl
        rw [this _ _ hz]
      · rw [Phi_pos m c _ _ hz, PhiA_eq]
        iintro ⟨HS, Hg⟩
        isplitl [HS]
        · iexists _; iexact HS
        iexact Hg
    refine (BIClass.sep_mono hPhi (BI.Entails.refl _)).trans ?_
    rw [PhiA_eq]
    iintro ⟨⟨HS, Hg⟩, Ho, ⟨%d0, H0⟩, ⟨%d1, H1⟩, ⟨%d2, H2⟩, ⟨%d3, H3⟩, ⟨%d4, H4⟩⟩
    iapply (run_first c (grid0.coords t) _ _ _ _ _ _ _ _ _ _ _ _ ((first_iff t).mpr h0) (iblk m c 0 t) (iblk m c 1 t) (iblk m c 2 t) Set.univ _)
    isplitl [H0]; · iexact H0
    isplitl [H1]; · iexact H1
    isplitl [H2]; · iexact H2
    isplitl [H3]; · iexists _; iexact H3
    isplitl [H4]; · iexists _; iexact H4
    isplitl [HS]; · iexact HS
    iintro ⟨H0, H1, H2, H3, H4, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    iexact H4
  · rw [Phi_pos m c _ _ (by omega), imgAt_prev m c t h0]
    simp only [before4 m c t h0]
    iintro ⟨⟨HS, Hg⟩, Ho, ⟨%d0, H0⟩, ⟨%d1, H1⟩, ⟨%d2, H2⟩, ⟨%d3, H3⟩, ⟨%d4, H4⟩⟩
    iapply (run_later c (grid0.coords t) _ _ _ _ _ _ _ _ _ _ _ _ (fun h => h0 ((first_iff t).mp h)) (iblk m c 0 t) (iblk m c 1 t) (iblk m c 2 t) _ _ Set.univ _)
    isplitl [H0]; · iexact H0
    isplitl [H1]; · iexact H1
    isplitl [H2]; · iexact H2
    isplitl [H3]; · iexists _; iexact H3
    isplitl [H4]; · iexact H4
    isplitl [HS]; · iexact HS
    iintro ⟨H0, H1, H2, H3, H4, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    iapply (leaves_mask m c t h0)
    iexact H4

/-- The body table's row at point `t` is the body at the point's memrefs. -/
theorem defs_row (t : Fin cfg0.N) :
    defs₀ (F := F) .tc cfg0.body (cfg0.bodyArgs t (cfg0.slots t)) = bodyAt0 t := by
  unfold defs₀; rw [Defs.onTc_tc]

/-- The pipeline's obligation on the body, at every point. -/
theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = Pipeline.ΦA spec0 c from rfl]

/-- After the last point the scratch's contents are forgotten. -/
theorem hout (c : Dev nD) : (dats m 0 c).Φ (Fin.last cfg0.N) ⊢ Pipeline.ΦA spec0 c := by
  rw [show (dats m 0 c).Φ (Fin.last cfg0.N) = Phi m c cfg0.N (Nat.le_refl _) from rfl,
    Phi_pos m c _ _ (by have : cfg0.N = 12 := N_0; omega), PhiA_eq]
  iintro ⟨HS, Hg⟩
  isplitl [HS]
  · iexists _; iexact HS
  iexact Hg

/-! ## The run and the frame -/

set_option backward.isDefEq.respectTransparency.types false in
/-- The whole program runs; at the end each output array is what the pipeline wrote into it, the line after the launch has
    run, and every semaphore counter is zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program leaves its two arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Hand

end
-- ==== Proof.Rank.lean ====
/-
  Ranks and the double stable sort. Sorting the positions of a row by its entries (ties left in order), and
  then sorting the positions again by what the first sort put there, gives at place `q` the RANK of entry `q`:
  how many entries come before it, an equal entry counting when it stands further left.
-/
module

public import Idealize.ShloMosaic.Lib.PlanTiles.StableSort
public import Mathlib.Data.EReal.Basic

@[expose] public section

noncomputable section

namespace Cert.Rank

open Idealize.ShloMosaic

variable {n : Nat} (x : Fin n → EReal)

/-- Entry `p` comes before entry `q`: it is smaller, or equal and further left. -/
def Precedes (p q : Fin n) : Prop := x p < x q ∨ (x p = x q ∧ p < q)

open Classical in
/-- The rank of entry `q`: the number of entries that come before it. -/
def rank (q : Fin n) : Nat := (Finset.univ.filter fun p => Precedes x p q).card

open Classical in
/-- How many entries are greater than entry `p`: a natural number whose descending order is the entries'
    ascending order. -/
def above (p : Fin n) : Nat := (Finset.univ.filter fun r => x p < x r).card

/-- More entries are greater than `p`'s exactly where `p`'s is the smaller one. -/
theorem above_lt_iff (p q : Fin n) : above x q < above x p ↔ x p < x q := by
  classical
  constructor
  · intro h
    by_contra hle
    have hle : x q ≤ x p := not_lt.mp hle
    refine absurd h (not_lt.mpr (Finset.card_le_card fun r hr => ?_))
    simp only [Finset.mem_filter, Finset.mem_univ, true_and] at hr ⊢
    exact lt_of_le_of_lt hle hr
  · intro h
    refine Finset.card_lt_card (Finset.ssubset_iff_of_subset (fun r hr => ?_) |>.mpr ⟨q, ?_, ?_⟩)
    · simp only [Finset.mem_filter, Finset.mem_univ, true_and] at hr ⊢
      exact h.trans hr
    · simpa using h
    · simp

/-- Equally many entries are greater exactly where two entries are equal. -/
theorem above_eq_iff (p q : Fin n) : above x p = above x q ↔ x p = x q := by
  have h1 := above_lt_iff x p q
  have h2 := above_lt_iff x q p
  constructor
  · intro h
    have n1 : ¬ x p < x q := fun hx => absurd (h1.mpr hx) (by omega)
    have n2 : ¬ x q < x p := fun hx => absurd (h2.mpr hx) (by omega)
    exact le_antisymm (not_lt.mp n2) (not_lt.mp n1)
  · intro h
    have n1 : ¬ above x q < above x p := fun hx => absurd (h1.mp hx) (by rw [h]; exact lt_irrefl _)
    have n2 : ¬ above x p < above x q := fun hx => absurd (h2.mp hx) (by rw [h]; exact lt_irrefl _)
    omega

/-- Before in the stable sort by descending `above` is before in the row. -/
theorem lex_iff (p q : Fin n) : PlanTiles.Lex (above x) (· < ·) p q ↔ Precedes x p q := by
  unfold PlanTiles.Lex Precedes
  rw [above_lt_iff, above_eq_iff]

/-- No entry comes before itself. -/
theorem not_precedes_self (p : Fin n) : ¬ Precedes x p p := by
  rintro (h | ⟨-, h⟩)
  · exact lt_irrefl _ h
  · exact lt_irrefl _ h

/-- Of two entries not both come before the other. -/
theorem Precedes.asymm {p q : Fin n} (h : Precedes x p q) : ¬ Precedes x q p := by
  rintro (h' | ⟨e', h'⟩) <;> rcases h with h | ⟨e, h⟩
  · exact lt_asymm h h'
  · exact absurd h' (by rw [e]; exact lt_irrefl _)
  · exact absurd h (by rw [e']; exact lt_irrefl _)
  · exact lt_asymm h h'

/-- The first sort: the positions by ascending entries, ties in order. -/
abbrev byEntry : Fin n → Fin n := sortedFrom fun a b => decide (x a < x b)

/-- What the first sort puts at an earlier place comes before what it puts at a later one. -/
theorem byEntry_precedes {i j : Fin n} (h : i < j) : Precedes x (byEntry x i) (byEntry x j) := by
  have hb : (fun a b : Fin n => decide (x a < x b)) = fun a b => decide (above x b < above x a) := by
    funext a b
    exact decide_eq_decide.mpr (above_lt_iff x a b).symm
  have hp := PlanTiles.pairwise_stableSort_lex (above x) (· < ·) (List.finRange n) (List.pairwise_lt_finRange n)
  rw [← hb] at hp
  have := List.pairwise_iff_get.mp hp (i.cast (length_sortPositions n _).symm) (j.cast (length_sortPositions n _).symm) h
  exact (lex_iff x _ _).mp this

/-- … and only then. -/
theorem byEntry_precedes_iff (i j : Fin n) : Precedes x (byEntry x i) (byEntry x j) ↔ i < j := by
  refine ⟨fun h => ?_, byEntry_precedes x⟩
  rcases lt_trichotomy i j with hij | hij | hij
  · exact hij
  · exact absurd h (by rw [hij]; exact not_precedes_self x _)
  · exact absurd h ((byEntry_precedes x hij).asymm x)

/-- The rank of the entry the first sort puts at place `k` is `k`. -/
theorem rank_byEntry (k : Fin n) : rank x (byEntry x k) = k.val := by
  classical
  have : (Finset.univ.filter fun p => Precedes x p (byEntry x k)) = (Finset.Iio k).image (byEntry x) := by
    ext p
    simp only [Finset.mem_filter, Finset.mem_univ, true_and, Finset.mem_image, Finset.mem_Iio]
    constructor
    · intro h
      obtain ⟨i, rfl⟩ := sortedFrom_surjective (fun a b => decide (x a < x b)) p
      exact ⟨i, (byEntry_precedes_iff x i k).mp h, rfl⟩
    · rintro ⟨i, hi, rfl⟩
      exact (byEntry_precedes_iff x i k).mpr hi
  unfold rank
  rw [this, Finset.card_image_of_injective _ (sortedFrom_injective _), Fin.card_Iio]

/-- A strictly increasing self-map of `Fin n` is the identity. -/
theorem eq_of_strictMono (f : Fin n → Fin n) (hf : StrictMono f) (k : Fin n) : f k = k := by
  have hb : Function.Surjective f := Finite.injective_iff_surjective.mp hf.injective
  have := Subsingleton.elim (StrictMono.orderIsoOfSurjective f hf hb) (OrderIso.refl (Fin n))
  exact congrArg (fun e : Fin n ≃o Fin n => e k) this

/-- Sorting the positions by the places of a permutation `s` gives its inverse. -/
theorem sortedFrom_perm (s : Fin n → Fin n) (hs : Function.Injective s) (q : Fin n) :
    s (sortedFrom (fun a b => decide ((s a).val < (s b).val)) q) = q := by
  refine eq_of_strictMono (fun q => s (sortedFrom (fun a b => decide ((s a).val < (s b).val)) q)) (fun i j hij => ?_) q
  have h := sortedFrom_noInversion (fun a b => decide ((s a).val < (s b).val)) (fun a b => decide ((s a).val < (s b).val))
    (fun a b h => by simp only [decide_eq_true_eq, decide_eq_false_iff_not] at h ⊢; omega) (fun a b h => h)
    (fun a b c h h' => by simp only [decide_eq_false_iff_not] at h h' ⊢; omega) i j hij
  simp only [decide_eq_false_iff_not, not_lt] at h
  refine lt_of_le_of_ne h fun e => ?_
  exact absurd (sortedFrom_injective _ (hs (Fin.ext (congrArg Fin.val e)))) (ne_of_lt hij)

/-- SORTING TWICE GIVES THE RANK: the second sort, of the positions by what the first sort put there, puts at
    place `q` the rank of entry `q`. -/
theorem sort_twice (q : Fin n) :
    (sortedFrom (fun a b => decide ((byEntry x a).val < (byEntry x b).val)) q).val = rank x q := by
  have h := sortedFrom_perm (byEntry x) (sortedFrom_injective _) q
  rw [← rank_byEntry x, h]

/-- A rank is a place. -/
theorem rank_lt (q : Fin n) : rank x q < n := by
  rw [← sort_twice]; exact Fin.isLt _

/-- The mask entry at `q`: 1 where the rank is among the first 196, else 0. -/
def kept (q : Fin n) : EReal := if rank x q < 196 then 1 else 0

end Cert.Rank

end
-- ==== Proof.KMath.lean ====
module

public import proofs.«01_k».proof.Proof.KRuns
public import proofs.«01_k».proof.Proof.Rank
public import Idealize.ShloMosaic.Lib.Pointwise
public import Idealize.ShloMosaic.Lib.WordArith

/-! What the kernel's two computed values are, entry by entry, over the extended reals: the mask over the patches
is 1 exactly at the patches whose noise ranks among the first 196, and the mask image repeats each patch's entry
over the patch's 8 × 8 pixels. -/

@[expose] public section

set_option maxRecDepth 16384

noncomputable section

namespace Cert.KernelIdeal.Hand

open Cert.KernelIdeal Cert.KernelIdeal.Gen Cert.Rank Idealize.ShloMosaic Idealize.ShloMosaic.WordArith

/-- A truth value, widened to a word and read as a number, is 1 or 0. -/
theorem sitofp_ofBool (b : Bool) :
    FloatOps.sitofp (F := Ideal) .f32 (BitVec.setWidth 32 (BitVec.ofBool b)) = if b then (1 : EReal) else 0 := by
  show ((((BitVec.setWidth 32 (BitVec.ofBool b)).toInt : ℝ)) : EReal) = _
  cases b
  · have : (BitVec.setWidth 32 (BitVec.ofBool false)).toInt = 0 := by decide
    rw [this]; simp
  · have : (BitVec.setWidth 32 (BitVec.ofBool true)).toInt = 1 := by decide
    rw [this]; simp

/-- The word of the constant 196.0 denotes 196. -/
theorem ofBits_196 : Ideal.ofBits .f32 0x43440000#32 = ((196 : ℕ) : EReal) := by
  show Ideal.ieee 8 23 0x43440000#32 = _
  unfold Ideal.ieee
  have h1 : (BitVec.extractLsb' 23 8 0x43440000#32).toNat = 134 := by decide
  have h2 : (BitVec.extractLsb' 0 23 0x43440000#32).toNat = 4456448 := by decide
  have h3 : (BitVec.extractLsb' (8 + 23) 1 0x43440000#32 == 1#1) = false := by decide
  simp only [h1, h2, h3]
  norm_num
  rfl

/-- Two column numbers below 784 compare as words as they do as numbers. -/
theorem slt_ofNat (a b : Fin 784) :
    IntOp.cmpi .slt (BitVec.ofNat 32 a.val) (BitVec.ofNat 32 b.val) = BitVec.ofBool (decide (a < b)) := by
  unfold IntOp.cmpi
  congr 1
  show BitVec.slt _ _ = _
  rw [BitVec.slt_eq_decide, toInt_ofNat_small _ (by omega), toInt_ofNat_small _ (by omega)]
  exact decide_eq_decide.mpr (by rw [Fin.lt_def]; omega)

/-- Counting by adding ones. -/
theorem sum_ones {n : Nat} (p : Fin n → Prop) [DecidablePred p] :
    (∑ x, if p x then (1 : EReal) else 0) = ((Finset.univ.filter p).card : EReal) := by
  rw [Finset.sum_boole]

variable (x0 : Vec Ideal S1x1x784 .f32) (x1 : Vec Ideal S1x784x1 .f32) (n : Fin 784 → EReal)

/-- The number of entries before `q`, added up as the kernel does, below 196. -/
theorem rank_sum (q : Fin 784) (f : Fin 784 → Bool) (hf : ∀ p, f p = true ↔ Precedes n p q) :
    (∑ x, if f x then (1 : EReal) else 0) < ((196 : ℕ) : EReal) ↔ rank n q < 196 := by
  classical
  rw [sum_ones fun x => f x = true]
  unfold rank
  rw [show (Finset.univ.filter fun x => f x = true) = Finset.univ.filter fun p => Precedes n p q from
    Finset.filter_congr fun p _ => hf p]
  exact EReal.natCast_lt_iff

/-- THE MASK THE KERNEL WRITES: entry `q` is 1 exactly where the noise at `q` ranks among the first 196. -/
theorem maskRow_apply (h0 : ∀ q, x0 (ix3 0 0 q) = n q) (h1 : ∀ q, x1 (ix3 0 q 0) = n q) (q : Fin 784) :
    maskRow x0 x1 (ix3 0 0 q) = kept n q := by
  unfold maskRow
  unfold_payloads
  pointwise
  simp only [h0, h1, slt_ofNat, andi_ofBool, ori_ofBool, sitofp_ofBool, ofBits_196]
  unfold kept
  simp only [decide_eq_true_eq]
  refine if_congr ?_ rfl rfl
  refine rank_sum n q _ fun p => ?_
  simp only [Bool.or_eq_true, Bool.and_eq_true, decide_eq_true_eq]
  unfold Precedes
  rw [eq_comm (a := n q)]

/-- The same mask as the kernel computes it along a column. -/
theorem maskCol_apply (h0 : ∀ q, x0 (ix3 0 0 q) = n q) (h1 : ∀ q, x1 (ix3 0 q 0) = n q) (q : Fin 784) :
    k0_pay7 x0 x1 (ix2 q 0) = kept n q := by
  unfold_payloads
  pointwise
  simp only [h0, h1, slt_ofNat, andi_ofBool, ori_ofBool, sitofp_ofBool, ofBits_196]
  unfold kept
  simp only [decide_eq_true_eq]
  refine if_congr ?_ rfl rfl
  refine rank_sum n q _ fun p => ?_
  simp only [Bool.or_eq_true, Bool.and_eq_true, decide_eq_true_eq]
  unfold Precedes
  rfl

/-- The quotient rounded down, as the kernel spells it on words: the truncated quotient, less one where the signs
    differ and the remainder is not zero. -/
def floorW (x d : BitVec 32) : BitVec 32 :=
  Scalar.select
    (IntOp.andi
      (IntOp.cmpi .ne
        (IntOp.subi (BitVec.setWidth 32 (IntOp.cmpi .sgt x 0#32)) (BitVec.setWidth 32 (IntOp.cmpi .slt x 0#32)))
        (Scalar.subi (Scalar.extui (Scalar.cmpi .sgt d 0#32)) (Scalar.extui (Scalar.cmpi .slt d 0#32))))
      (IntOp.cmpi .ne (IntOp.remsi .vector x d) 0#32))
    (IntOp.subi (IntOp.divsi .vector x d) 1#32)
    (IntOp.divsi .vector x d)

/-- The remainder of the quotient rounded down, as the kernel spells it on words. -/
def modW (x d : BitVec 32) : BitVec 32 :=
  Scalar.select
    (IntOp.andi (IntOp.xori (IntOp.cmpi .slt (IntOp.remsi .vector x d) 0#32) (Scalar.cmpi .slt d 0#32))
      (IntOp.cmpi .ne (IntOp.remsi .vector x d) 0#32))
    (IntOp.addi (IntOp.remsi .vector x d) d)
    (IntOp.remsi .vector x d)

/-- A patch number over 28 is the number of its row of patches. -/
theorem floorW_28 : ∀ q : Fin 784, floorW (BitVec.ofNat 32 q.val) 28#32 = BitVec.ofNat 32 (q.val / 28) := by
  decide +kernel

/-- A pixel coordinate over 8 is its patch's. -/
theorem floorW_8 : ∀ i : Fin 224, floorW (BitVec.ofNat 32 i.val) 8#32 = BitVec.ofNat 32 (i.val / 8) := by
  decide +kernel

/-- A patch number modulo 28 is its place in its row of patches. -/
theorem modW_28 : ∀ q : Fin 784, modW (BitVec.ofNat 32 q.val) 28#32 = BitVec.ofNat 32 (q.val % 28) := by
  decide +kernel

/-- Two small numbers are equal as words exactly where they are equal. -/
theorem eq_ofNat (a b : Nat) (ha : a < 784) (hb : b < 784) :
    IntOp.cmpi .eq (BitVec.ofNat 32 a) (BitVec.ofNat 32 b) = BitVec.ofBool (decide (a = b)) := by
  unfold IntOp.cmpi
  congr 1
  rw [beq_eq_decide]
  refine decide_eq_decide.mpr ⟨fun h => ?_, fun h => by rw [h]⟩
  have := congrArg BitVec.toNat h
  rwa [BitVec.toNat_ofNat, BitVec.toNat_ofNat, Nat.mod_eq_of_lt (by omega), Nat.mod_eq_of_lt (by omega)] at this

/-- The left factor: 1 where patch `q` lies in pixel row `i`'s row of patches. -/
theorem rowHit (i : Fin 224) (q : Fin 784) :
    k0_pay10 (F := Ideal) (k0_pay9 (iota .tc S224x784 32 [0] iota_S224x784_d0_w32)
      (iota .tc S224x784 32 [1] iota_S224x784_d1_w32) 28#32 k0_pay8 0#32) (ix2 i q)
      = if q.val / 28 = i.val / 8 then (1 : EReal) else 0 := by
  unfold_payloads
  pointwise
  show FloatOps.sitofp (F := Ideal) .f32 (BitVec.setWidth 32 (IntOp.cmpi .eq (floorW (BitVec.ofNat 32 q.val) 28#32)
    (floorW (BitVec.ofNat 32 i.val) 8#32))) = _
  rw [floorW_28, floorW_8, eq_ofNat _ _ (by omega) (by omega), sitofp_ofBool]
  simp only [decide_eq_true_eq]

/-- The right factor: 1 where patch `q` lies in pixel column `j`'s column of patches. -/
theorem colHit (q : Fin 784) (j : Fin 224) :
    k0_pay11 (F := Ideal) (ix2 q j) = if q.val % 28 = j.val / 8 then (1 : EReal) else 0 := by
  unfold_payloads
  pointwise
  show FloatOps.sitofp (F := Ideal) .f32 (BitVec.setWidth 32 (IntOp.cmpi .eq (modW (BitVec.ofNat 32 q.val) 28#32)
    (floorW (BitVec.ofNat 32 j.val) 8#32))) = _
  rw [modW_28, floorW_8, eq_ofNat _ _ (by omega) (by omega), sitofp_ofBool]
  simp only [decide_eq_true_eq]

/-- The patch that pixel (`i`, `j`) lies in. -/
def patchOf (i j : Fin 224) : Fin 784 := ⟨28 * (i.val / 8) + j.val / 8, by omega⟩

/-- THE MASK IMAGE: at pixel (`i`, `j`) it is the mask entry of the patch the pixel lies in — in the sum over the
    patches every other patch has a factor 0. -/
theorem maskImg_apply (h0 : ∀ q, x0 (ix3 0 0 q) = n q) (h1 : ∀ q, x1 (ix3 0 q 0) = n q) (i j : Fin 224) :
    maskImg x0 x1 (ix2 i j) = kept n (patchOf i j) := by
  unfold maskImg k0_pay1 k0_pay12
  pointwise
  simp only [colHit, maskCol_apply x0 x1 n h0 h1]
  rw [Finset.sum_eq_single (patchOf i j)]
  · rw [rowHit, if_pos (by simp only [patchOf]; omega), if_pos (by simp only [patchOf]; omega), one_mul, mul_one]
  · intro q _ hq
    rw [rowHit]
    by_cases hr : q.val / 28 = i.val / 8
    · rw [if_neg (c := q.val % 28 = j.val / 8) (fun hc => hq (Fin.ext (by simp only [patchOf]; omega))), mul_zero, mul_zero]
    · rw [if_neg hr, zero_mul]
  · exact fun h => absurd (Finset.mem_univ _) h

/-- The masked block: every pixel times its patch's mask entry. -/
theorem masked_apply (h0 : ∀ q, x0 (ix3 0 0 q) = n q) (h1 : ∀ q, x1 (ix3 0 q 0) = n q)
    (x2 : Vec Ideal S1x64x224x224 .f32) (ch : Fin 64) (i j : Fin 224) :
    k0_pay2 x2 (maskImg x0 x1) (ix4 0 ch i j) = x2 (ix4 0 ch i j) * kept n (patchOf i j) := by
  unfold k0_pay2
  pointwise
  rw [maskImg_apply x0 x1 n h0 h1]

end Cert.KernelIdeal.Hand

end
-- ==== Proof.KValue.lean ====
module

public import proofs.«01_k».proof.Proof.KLaunch
public import proofs.«01_k».proof.Proof.KMath
public import Idealize.ShloMosaic.Lib.Pipeline.Value

/-! The two arrays a run of the kernel ends holding, over the extended reals, in terms of the arguments: each pixel
times its patch's mask entry, and the mask over the patches. -/

@[expose] public section

set_option maxRecDepth 16384

noncomputable section

namespace Cert.KernelIdeal.Hand

open Cert.KernelIdeal Cert.KernelIdeal.Gen Cert.Rank
open Idealize.ShloMosaic Idealize.ShloMosaic.TcCoe Idealize.ShloMosaic.Tactic
open Idealize.SL.Sem
open Idealize.ShloMosaic.Pipeline (Dat)

variable (m : (ℓ : Loc nD τ sig) → Buf (Elt Ideal) ℓ) (ρ : Dev nD → PrngReg)

/-- An image's row of noise. -/
def noise (a1 : S4x784.Idx → EReal) (b : Fin 4) : Fin 784 → EReal := fun q => a1 (ix2 b q)

/-- The masked images: every pixel times the mask entry of the patch it lies in. -/
def maskedOf (a0 : S4x192x224x224.Idx → EReal) (a1 : S4x784.Idx → EReal) : S4x192x224x224.Idx → EReal :=
  fun i => a0 i * kept (noise a1 (i 0)) (patchOf (i 2) (i 3))

/-- The mask over the patches of every image. -/
def maskOf (a1 : S4x784.Idx → EReal) : S4x784.Idx → EReal := fun i => kept (noise a1 (i 0)) (i 1)

/-- The mask array as the kernel writes it, with its middle axis of extent one. -/
def maskOf3 (a1 : S4x784.Idx → EReal) : S4x1x784.Idx → EReal := fun i => kept (noise a1 (i 0)) (i 2)

/-! ## What the region finds -/

/-- The row copy of the noise. -/
theorem V_v0 (c : Dev nD) : V m c main_v0
    = broadcastInDim S4x1x784 ![0, 2] bcast_S4x784_S4x1x784_0_2 (m ((c : Thread nD τ).loc main_arg1)) := by
  unfold V V0
  simp only [hostOps0, List.flatten_cons, List.flatten_nil, List.append_nil]
  after_results

/-- The column copy of the noise. -/
theorem V_v1 (c : Dev nD) : V m c main_v1
    = broadcastInDim S4x784x1 ![0, 1] bcast_S4x784_S4x784x1_0_1 (m ((c : Thread nD τ).loc main_arg1)) := by
  unfold V V0
  simp only [hostOps0, List.flatten_cons, List.flatten_nil, List.append_nil]
  after_results

/-- The image a grid point works on. -/
def imageOf (t : Fin cfg0.N) : Fin 4 := ⟨t.val / 3, by have ht : t.val < 12 := Nat.lt_of_lt_of_eq t.isLt N_0; omega⟩

/-- The first noise block at a point is its image's row of noise. -/
theorem iblk0_apply (c : Dev nD) (t : Fin cfg0.N) (q : Fin 784) :
    iblk m c 0 t (ix3 0 0 q) = noise (m ((c : Thread nD τ).loc main_arg1)) (imageOf t) q := by
  have e := index0_eq t
  have h : ((cfg0.win 0).blk t).view.emb (ix3 0 0 q) = (ix3 (imageOf t) 0 q : S4x1x784.Idx) := by
    funext a; apply Fin.ext
    match a with
    | ⟨0, _⟩ => show win0_0.index t (0 : Fin 3) * 1 + 1 * 0 = t.val / 3; rw [e.1]; omega
    | ⟨1, _⟩ => show win0_0.index t (1 : Fin 3) * 1 + 1 * 0 = 0; rw [e.2.1]
    | ⟨2, _⟩ => show win0_0.index t (2 : Fin 3) * 784 + 1 * q.val = q.val; rw [e.2.2]; omega
  show V m c main_v0 (((cfg0.win 0).blk t).view.emb (ix3 0 0 q)) = _
  rw [h, V_v0]
  pointwise
  rfl

/-- The second noise block at a point is its image's row of noise, as a column. -/
theorem iblk1_apply (c : Dev nD) (t : Fin cfg0.N) (q : Fin 784) :
    iblk m c 1 t (ix3 0 q 0) = noise (m ((c : Thread nD τ).loc main_arg1)) (imageOf t) q := by
  have e := index1_eq t
  have h : ((cfg0.win 1).blk t).view.emb (ix3 0 q 0) = (ix3 (imageOf t) q 0 : S4x784x1.Idx) := by
    funext a; apply Fin.ext
    match a with
    | ⟨0, _⟩ => show win0_1.index t (0 : Fin 3) * 1 + 1 * 0 = t.val / 3; rw [e.1]; omega
    | ⟨1, _⟩ => show win0_1.index t (1 : Fin 3) * 784 + 1 * q.val = q.val; rw [e.2.1]; omega
    | ⟨2, _⟩ => show win0_1.index t (2 : Fin 3) * 1 + 1 * 0 = 0; rw [e.2.2]
  show V m c main_v1 (((cfg0.win 1).blk t).view.emb (ix3 0 q 0)) = _
  rw [h, V_v1]
  pointwise
  rfl

/-! ## The masked images -/

/-- The image window and the result window are at the same block: the point's image, its block of 64 channels. -/
theorem index23_eq : ∀ t : Fin cfg0.N,
    (win0_2.index t (0 : Fin 4) = t.val / 3 ∧ win0_2.index t (1 : Fin 4) = t.val % 3 ∧ win0_2.index t (2 : Fin 4) = 0 ∧ win0_2.index t (3 : Fin 4) = 0)
    ∧ (win0_3.index t (0 : Fin 4) = t.val / 3 ∧ win0_3.index t (1 : Fin 4) = t.val % 3 ∧ win0_3.index t (2 : Fin 4) = 0 ∧ win0_3.index t (3 : Fin 4) = 0) :=
  (by decide +kernel : ∀ t : Fin grid0.N, _)

/-- The result window's block is written back at every point. -/
theorem flush3 : ∀ t : Fin cfg0.N, (cfg0.win 3).flush t = true := (by decide +kernel : ∀ t : Fin grid0.N, win0_3.flush t = true)

/-- What a point writes back is its block of the masked images. -/
theorem flushed3 (c : Dev nD) (t : Fin cfg0.N) :
    (dats m 0 c).flushed 3 t = ((cfg0.win 3).blk t).view.read (Elt Ideal)
      (maskedOf (m ((c : Thread nD τ).loc main_arg0)) (m ((c : Thread nD τ).loc main_arg1))) := by
  show (cfg0.win 3).cut (grid0.coords t) ((dats m 0 c).after 3 t) = _
  rw [after3]
  obtain ⟨⟨a0, a1, a2, a3⟩, ⟨e0, e1, e2, e3⟩⟩ := index23_eq t
  funext y
  have h0 : (y 0).val < 1 := (y 0).isLt
  have h1 : (y 1).val < 64 := (y 1).isLt
  have h2 : (y 2).val < 224 := (y 2).isLt
  have h3 : (y 3).val < 224 := (y 3).isLt
  have hx : (cfg0.win 3).xinj (grid0.coords t) y = (ix4 0 ⟨(y 1).val, h1⟩ ⟨(y 2).val, h2⟩ ⟨(y 3).val, h3⟩ : S1x64x224x224.Idx) := by
    funext a; apply Fin.ext
    match a with
    | ⟨0, _⟩ => show (y 0).val = 0; omega
    | ⟨1, _⟩ => rfl
    | ⟨2, _⟩ => rfl
    | ⟨3, _⟩ => rfl
  have hb : ((cfg0.win 2).blk t).view.emb (ix4 0 ⟨(y 1).val, h1⟩ ⟨(y 2).val, h2⟩ ⟨(y 3).val, h3⟩) = ((cfg0.win 3).blk t).view.emb y := by
    funext a; apply Fin.ext
    match a with
    | ⟨0, _⟩ => show win0_2.index t (0 : Fin 4) * 1 + 1 * 0 = win0_3.index t (0 : Fin 4) * 1 + 1 * (y 0).val; omega
    | ⟨1, _⟩ => show win0_2.index t (1 : Fin 4) * 64 + 1 * (y 1).val = win0_3.index t (1 : Fin 4) * 64 + 1 * (y 1).val; omega
    | ⟨2, _⟩ => show win0_2.index t (2 : Fin 4) * 224 + 1 * (y 2).val = win0_3.index t (2 : Fin 4) * 224 + 1 * (y 2).val; omega
    | ⟨3, _⟩ => show win0_2.index t (3 : Fin 4) * 224 + 1 * (y 3).val = win0_3.index t (3 : Fin 4) * 224 + 1 * (y 3).val; omega
  show k0_pay2 (iblk m c 2 t) (imgAt m c t) ((cfg0.win 3).xinj (grid0.coords t) y)
    = maskedOf _ _ (((cfg0.win 3).blk t).view.emb y)
  rw [hx]
  unfold imgAt
  rw [masked_apply _ _ _ (iblk0_apply m c t) (iblk1_apply m c t)]
  unfold maskedOf
  have hv : iblk m c 2 t (ix4 0 ⟨(y 1).val, h1⟩ ⟨(y 2).val, h2⟩ ⟨(y 3).val, h3⟩)
      = m ((c : Thread nD τ).loc main_arg0) (((cfg0.win 3).blk t).view.emb y) := by
    show V m c main_arg0 (((cfg0.win 2).blk t).view.emb _) = _
    rw [hb, V_main_arg0]
  rw [hv]
  have k0 : ((cfg0.win 3).blk t).view.emb y 0 = imageOf t := by
    apply Fin.ext; show win0_3.index t (0 : Fin 4) * 1 + 1 * (y 0).val = t.val / 3; omega
  have k2 : ((cfg0.win 3).blk t).view.emb y 2 = (⟨(y 2).val, h2⟩ : Fin 224) := by
    apply Fin.ext; show win0_3.index t (2 : Fin 4) * 224 + 1 * (y 2).val = (y 2).val; omega
  have k3 : ((cfg0.win 3).blk t).view.emb y 3 = (⟨(y 3).val, h3⟩ : Fin 224) := by
    apply Fin.ext; show win0_3.index t (3 : Fin 4) * 224 + 1 * (y 3).val = (y 3).val; omega
  rw [k0, k2, k3]

/-- An index of the result is in a point's block iff each coordinate is in the block's range. -/
theorem mem_blk3 (t : Fin cfg0.N) (i : S4x192x224x224.Idx) :
    i ∈ ((cfg0.win 3).blk t).view.set ↔ ∀ a : Fin 4, win0_3.index t a * S1x64x224x224.size a ≤ (i a).val
      ∧ (i a).val < win0_3.index t a * S1x64x224x224.size a + S1x64x224x224.size a := by
  show i ∈ ((View.whole main_v2_0).slice (win0_3.rect t)).set ↔ _
  rw [View.set_slice_whole, Rect.mem_set_unit]
  exact Iff.rfl

/-- The grid point that writes back image `b`'s channel block `k`. -/
def pointOf (b : Fin 4) (k : Fin 3) : Fin cfg0.N := ⟨3 * b.val + k.val, lt_of_lt_of_eq (by omega) N_0.symm⟩

/-- THE FIRST RESULT after the run: the masked images (the points' blocks tile it). -/
theorem final3 (c : Dev nD) : (dats m 0 c).arrAt 3 cfg0.N
    = maskedOf (m ((c : Thread nD τ).loc main_arg0)) (m ((c : Thread nD τ).loc main_arg1)) :=
  (dats m 0 c).arrAt_eq_of_cover 3 _ (fun t _ => flushed3 m c t) (fun i => by
    have h0 : (i 0).val < 4 := (i 0).isLt
    have h1 : (i 1).val < 192 := (i 1).isLt
    have h2 : (i 2).val < 224 := (i 2).isLt
    have h3 : (i 3).val < 224 := (i 3).isLt
    refine ⟨pointOf ⟨(i 0).val, h0⟩ ⟨(i 1).val / 64, by omega⟩, flush3 _, ?_⟩
    obtain ⟨-, ⟨e0, e1, e2, e3⟩⟩ := index23_eq (pointOf ⟨(i 0).val, h0⟩ ⟨(i 1).val / 64, by omega⟩)
    have hp : (pointOf ⟨(i 0).val, h0⟩ ⟨(i 1).val / 64, by omega⟩).val = 3 * (i 0).val + (i 1).val / 64 := rfl
    rw [hp] at e0 e1
    refine (mem_blk3 _ i).mpr fun a => ?_
    match a with
    | ⟨0, _⟩ => show win0_3.index _ (0 : Fin 4) * 1 ≤ (i 0).val ∧ (i 0).val < win0_3.index _ (0 : Fin 4) * 1 + 1; omega
    | ⟨1, _⟩ => show win0_3.index _ (1 : Fin 4) * 64 ≤ (i 1).val ∧ (i 1).val < win0_3.index _ (1 : Fin 4) * 64 + 64; omega
    | ⟨2, _⟩ => show win0_3.index _ (2 : Fin 4) * 224 ≤ (i 2).val ∧ (i 2).val < win0_3.index _ (2 : Fin 4) * 224 + 224; omega
    | ⟨3, _⟩ => show win0_3.index _ (3 : Fin 4) * 224 ≤ (i 3).val ∧ (i 3).val < win0_3.index _ (3 : Fin 4) * 224 + 224; omega)

/-! ## The mask -/

/-- The mask window's block at a point is the point's image. -/
theorem index4_eq : ∀ t : Fin cfg0.N, win0_4.index t (0 : Fin 3) = t.val / 3 ∧ win0_4.index t (1 : Fin 3) = 0 ∧ win0_4.index t (2 : Fin 3) = 0 :=
  (by decide +kernel : ∀ t : Fin grid0.N, _)

/-- Its block is written back at an image's last channel block. -/
theorem flush4 : ∀ b : Fin 4, (cfg0.win 4).flush (pointOf b 2) = true := (by decide +kernel : ∀ b : Fin 4, win0_4.flush (pointOf b 2) = true)

/-- What a point writes back is its block of the mask. -/
theorem flushed4 (c : Dev nD) (t : Fin cfg0.N) :
    (dats m 0 c).flushed 4 t = ((cfg0.win 4).blk t).view.read (Elt Ideal) (maskOf3 (m ((c : Thread nD τ).loc main_arg1))) := by
  show (cfg0.win 4).cut (grid0.coords t) ((dats m 0 c).after 4 t) = _
  rw [after4]
  obtain ⟨e0, e1, e2⟩ := index4_eq t
  funext y
  have h0 : (y 0).val < 1 := (y 0).isLt
  have h1 : (y 1).val < 1 := (y 1).isLt
  have h2 : (y 2).val < 784 := (y 2).isLt
  have hx : (cfg0.win 4).xinj (grid0.coords t) y = (ix3 0 0 ⟨(y 2).val, h2⟩ : S1x1x784.Idx) := by
    funext a; apply Fin.ext
    match a with
    | ⟨0, _⟩ => show (y 0).val = 0; omega
    | ⟨1, _⟩ => show (y 1).val = 0; omega
    | ⟨2, _⟩ => rfl
  show maskAt m c t ((cfg0.win 4).xinj (grid0.coords t) y) = maskOf3 _ (((cfg0.win 4).blk t).view.emb y)
  rw [hx]
  unfold maskAt
  rw [maskRow_apply _ _ _ (iblk0_apply m c t) (iblk1_apply m c t)]
  unfold maskOf3
  have k0 : ((cfg0.win 4).blk t).view.emb y 0 = imageOf t := by
    apply Fin.ext; show win0_4.index t (0 : Fin 3) * 1 + 1 * (y 0).val = t.val / 3; omega
  have k2 : ((cfg0.win 4).blk t).view.emb y 2 = (⟨(y 2).val, h2⟩ : Fin 784) := by
    apply Fin.ext; show win0_4.index t (2 : Fin 3) * 784 + 1 * (y 2).val = (y 2).val; omega
  rw [k0, k2]

/-- An index of the mask array is in a point's block iff each coordinate is in the block's range. -/
theorem mem_blk4 (t : Fin cfg0.N) (i : S4x1x784.Idx) :
    i ∈ ((cfg0.win 4).blk t).view.set ↔ ∀ a : Fin 3, win0_4.index t a * S1x1x784.size a ≤ (i a).val
      ∧ (i a).val < win0_4.index t a * S1x1x784.size a + S1x1x784.size a := by
  show i ∈ ((View.whole main_v2_1).slice (win0_4.rect t)).set ↔ _
  rw [View.set_slice_whole, Rect.mem_set_unit]
  exact Iff.rfl

/-- The mask array after the region. -/
theorem final4 (c : Dev nD) : (dats m 0 c).arrAt 4 cfg0.N = maskOf3 (m ((c : Thread nD τ).loc main_arg1)) :=
  (dats m 0 c).arrAt_eq_of_cover 4 _ (fun t _ => flushed4 m c t) (fun i => by
    have h0 : (i 0).val < 4 := (i 0).isLt
    have h1 : (i 1).val < 1 := (i 1).isLt
    have h2 : (i 2).val < 784 := (i 2).isLt
    refine ⟨pointOf ⟨(i 0).val, h0⟩ 2, flush4 _, ?_⟩
    obtain ⟨e0, e1, e2⟩ := index4_eq (pointOf ⟨(i 0).val, h0⟩ 2)
    have hp : (pointOf ⟨(i 0).val, h0⟩ 2).val = 3 * (i 0).val + 2 := rfl
    rw [hp] at e0
    refine (mem_blk4 _ i).mpr fun a => ?_
    match a with
    | ⟨0, _⟩ => show win0_4.index _ (0 : Fin 3) * 1 ≤ (i 0).val ∧ (i 0).val < win0_4.index _ (0 : Fin 3) * 1 + 1; omega
    | ⟨1, _⟩ => show win0_4.index _ (1 : Fin 3) * 1 ≤ (i 1).val ∧ (i 1).val < win0_4.index _ (1 : Fin 3) * 1 + 1; omega
    | ⟨2, _⟩ => show win0_4.index _ (2 : Fin 3) * 784 ≤ (i 2).val ∧ (i 2).val < win0_4.index _ (2 : Fin 3) * 784 + 784; omega)

/-- THE SECOND RESULT after the run: the mask, its middle axis dropped. -/
theorem final_v3 (c : Dev nD) : Pipeline.afterTail₀ cfgs (dats m) 0 (V0 m) [hostOps1] c main_v3
    = maskOf (m ((c : Thread nD τ).loc main_arg1)) := by
  have hw : Pipeline.withArrays (cfgs 0).spec c (V0 m c) (fun w => (dats m 0 c).arrAt w (cfgs 0).N) (Proc.devRef .tc main_v2_1)
      = maskOf3 (m ((c : Thread nD τ).loc main_arg1)) :=
    (Pipeline.withArrays_arr spec0 launch0.win.arr_inj c (V0 m c) (fun w => (dats m 0 c).arrAt w cfg0.N) 4).trans (final4 m c)
  have h : Pipeline.afterTail₀ cfgs (dats m) 0 (V0 m) [hostOps1] c main_v3
      = shapeCast S4x784 (maskOf3 (m ((c : Thread nD τ).loc main_arg1))) shapeCasts_S4x1x784_S4x784 := by
    unfold Pipeline.afterTail₀
    rw [← hw]
    simp only [hostOps1, List.flatten_cons, List.flatten_nil, List.append_nil]
    after_results
    rfl
  rw [h]
  funext i
  rw [← ix2_eta i]
  pointwise
  rfl

/-- THE KERNEL'S RUN, READ: every run ends with the masked images and the mask in the two results, the arguments
    unchanged. -/
theorem run_value : θ_run defs (onTc (τ := τ) (main (F := Ideal))) ⟨m, fun _ => 0, ρ⟩ fun r => ∀ c : Dev nD,
      r.2.mem ((c.tc : Thread nD τ).loc main_v2_0) = maskedOf (m ((c.tc : Thread nD τ).loc main_arg0)) (m ((c.tc : Thread nD τ).loc main_arg1))
      ∧ r.2.mem ((c.tc : Thread nD τ).loc main_v3) = maskOf (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun r h c => ⟨((h.1.1 c).1 3).trans (final3 m c),
      ((h.1.1 c).2 main_v3 (Pipeline.mem_restRefs_of main_v3 (by decide) (by decide))).trans (final_v3 m c),
      (h.2.1 c).1, (h.2.1 c).2⟩)
    (θ_run_and (run_main m ρ) (frame m ρ))

end Cert.KernelIdeal.Hand

end
-- ==== Proof.PFrame.lean ====
module

public import proofs.«01_k».proof.Proof.KLaunch
public import proofs.«01_k».proof.Proof.Gen.Kernel

/-! The kernel as printed and the kernel as idealized are one program, no operation having been replaced; so the frame
    proved of the second at every float type is the first's. -/

@[expose] public section

set_option maxRecDepth 16384

noncomputable section

namespace Cert.Kernel.Hand

open Idealize.ShloMosaic Idealize.ShloMosaic.TcCoe Idealize.SL.Sem

variable {F : FTy → Type} [FloatOps F]

attribute [local instance] Cert.Kernel.Gen.facts Cert.KernelIdeal.Gen.facts

/-- The two programs' tables of kernel functions are the same. -/
theorem defs₀_eq : Cert.Kernel.defs₀ (F := F) = Cert.KernelIdeal.defs₀ (F := F) := by
  unfold Cert.Kernel.defs₀ Cert.KernelIdeal.defs₀
  refine congrArg Defs.onTc (funext fun l => funext fun a => ?_)
  match l, a with
  | ⟨0, _⟩, (t, s) => rfl

/-- The two programs' tables of bodies are the same. -/
theorem defs_eq : Cert.Kernel.defs (F := F) = Cert.KernelIdeal.defs (F := F) :=
  congrArg (Pipeline.defs (Cert.KernelIdeal.pcfgs (F := F))) defs₀_eq

variable (m : (ℓ : Loc nD τ sig) → Buf (Elt F) ℓ) (ρ : Dev nD → PrngReg)

/-- The kernel leaves its two arguments unchanged and every semaphore counter at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  rw [defs_eq]
  exact Cert.KernelIdeal.Hand.frame m ρ

end Cert.Kernel.Hand

end
-- ==== Proof.RFrame.lean ====
/-
  The reference runs, leaves its arguments as they were, and has no semaphore to leave away from zero.
-/
module

public import proofs.«01_k».proof.Proof.Gen.ReferenceIdeal.Run
public import Idealize.ShloMosaic.Lib.Quiescent

@[expose] public section

noncomputable section

namespace Cert.ReferenceIdeal.Hand

open Cert.ReferenceIdeal Cert.ReferenceIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- Every run of the reference ends with its arguments unchanged and every counter at zero. -/
theorem frame :
    θ_run defs (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono
    (fun r h => ⟨fun c => (h c).2.2, sem_eq_zero_of_no_sems (by decide) r.2⟩)
    (Cert.ReferenceIdeal.Value.run m ρ)

end Cert.ReferenceIdeal.Hand

end
-- ==== Proof.RValue.lean ====
module

public import proofs.«01_k».proof.Proof.Gen.ReferenceIdeal.Run
public import proofs.«01_k».proof.Proof.KValue
public import Idealize.ShloMosaic.Lib.Pointwise
public import Idealize.ShloMosaic.Lib.WordArith

@[expose] public section

set_option maxRecDepth 16384

/-! What the reference leaves in its two results.

The reference sorts each noise row's places by its entries, sorts them again by the places found, and so has the
rank of every place; the mask entry of a place is the entry, at the place's rank, of a row of 196 ones and then
zeros. Read at an index, the mask is `kept` of the row at the place, and the masked image is the image times the
mask entry of the pixel's patch. -/

noncomputable section

namespace Cert.ReferenceIdeal.Hand

open Cert.ReferenceIdeal Cert.ReferenceIdeal.Gen Cert.Rank Idealize.ShloMosaic Idealize.ShloMosaic.WordArith Idealize.ShloMosaic.TcCoe Idealize.SL.Sem

/-- The first argsort: each row's places in the order of its entries. -/
def order1 (a1 : S4x784.Idx → EReal) : IVec S4x784 32 :=
  (Host.sort2 S4x784 1 (comparator_f32_i32_d1 (F := Ideal)) a1 (iotaInDim S4x784 32 1)).2

/-- The second argsort, of the words the first left: each row's ranks. -/
def order2 (k : IVec S4x784 32) : IVec S4x784 32 :=
  (Host.sort2 S4x784 1 comparator_i32_i32_d1 k (iotaInDim S4x784 32 1)).2

/-- The words the mask is gathered by, with a trailing axis of extent 1; a negative one would count from the end. -/
def wrapped (k : IVec S4x784 32) : IVec S4x784x1 32 :=
  shapeCast S4x784x1 (select (cmpi .slt k (broadcastInDim S4x784 ![] bcast_S_S4x784 (constantI S_ 32 0#32)))
    (addi k (broadcastInDim S4x784 ![] bcast_S_S4x784 (constantI S_ 32 784#32))) k) shapeCasts_S4x784_S4x784x1

/-- The mask in rank order: ones at the first 196 places of each row, zeros at the rest. -/
def kept2 : FVec Ideal S4x784 .f32 :=
  broadcastInDim S4x784 ![0, 1] bcast_S1x784_S4x784_0_1 (uitofp .f32 (cmpi .slt
    (broadcastInDim S1x784 ![1] bcast_S784_S1x784_1 (iotaInDim S784 32 0)) (broadcastInDim S1x784 ![] bcast_S_S1x784 (constantI S_ 32 196#32))))

/-- The mask: at each place the entry of the mask in rank order that the place's word names. -/
def refMask (k : IVec S4x784 32) : FVec Ideal S4x784 .f32 :=
  select (Host.reduce IntOp.andi (andi (cmpi .sge (wrapped k) (broadcastInDim S4x784x1 ![] bcast_S_S4x784x1 (constantI S_ 32 0#32)))
      (cmpi .sle (wrapped k) (broadcastInDim S4x784x1 ![0, 1, 2] bcast_S1x1x1_S4x784x1_0_1_2 (broadcastInDim S1x1x1 ![2] bcast_S1_S1x1x1_2 (constantI S1 32 783#32)))))
      (constantI S_ 1 1#1) reducesTo_S4x784x1_S4x784_d2 h_S_)
    (Host.gather gather_S4x784_S4x784x1_S4x784_n_1_0_0_1_2_11 kept2 (wrapped k))
    (broadcastInDim S4x784 ![] bcast_S_S4x784 (constant S_ .f32 0x7FC00000#32))

/-- The masked images: split into patches, each patch multiplied by its mask entry, put back together. -/
def refImg (a0 : S4x192x224x224.Idx → EReal) (mk : FVec Ideal S4x784 .f32) : FVec Ideal S4x192x224x224 .f32 :=
  shapeCast S4x192x224x224 (transpose S4x192x28x8x28x8 [0, 5, 1, 3, 2, 4] (shapeCast S4x28x28x8x8x192 (mulf
    (shapeCast S4x784x12288 (transpose S4x28x28x8x8x192 [0, 2, 4, 3, 5, 1] (shapeCast S4x192x28x8x28x8 a0 shapeCasts_S4x192x224x224_S4x192x28x8x28x8)
      transposes_S4x192x28x8x28x8_S4x28x28x8x8x192_0_2_4_3_5_1) shapeCasts_S4x28x28x8x8x192_S4x784x12288)
    (broadcastInDim S4x784x12288 ![0, 1, 2] bcast_S4x784x1_S4x784x12288_0_1_2 (broadcastInDim S4x784x1 ![0, 1] bcast_S4x784_S4x784x1_0_1 mk)))
    shapeCasts_S4x784x12288_S4x28x28x8x8x192) transposes_S4x28x28x8x8x192_S4x192x28x8x28x8_0_5_1_3_2_4) shapeCasts_S4x192x28x8x28x8_S4x192x224x224

section Named

variable (m : (ℓ : Loc nD τ sig) → Buf (Elt Ideal) ℓ) (ρ : Dev nD → PrngReg)

/-- Every run of the reference ends with the masked images and the mask so named, the arguments unchanged. -/
theorem run_named :
    θ_run defs (onTc (τ := τ) (main (F := Ideal))) ⟨m, fun _ => 0, ρ⟩ fun r => ∀ c : Dev nD,
      r.2.mem ((c.tc : Thread nD τ).loc main_v17) = refImg (m ((c.tc : Thread nD τ).loc main_arg0)) (refMask (order2 (order1 (m ((c.tc : Thread nD τ).loc main_arg1)))))
      ∧ r.2.mem ((c.tc : Thread nD τ).loc main_v11) = refMask (order2 (order1 (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.ReferenceIdeal.Value.run m ρ

end Named

/-! ## The two sorts -/

/-- The first sort's comparison is the order of the entries. -/
theorem before_entry (a b : EReal) (u v : BitVec 32) :
    (comparator_f32_i32_d1 (F := Ideal) (a, u) (b, v) == 1#1) = decide (a < b) := by
  have hn : ∀ l : EReal, FloatOps.cmpf (F := Ideal) (φ := .f32) .une l l = 0#1 := fun l => by
    show BitVec.ofBool (decide (l ≠ l)) = _
    simp
  have hz : ∀ l : EReal, Scalar.select (FloatOps.cmpf (F := Ideal) (φ := .f32) .oeq l (FloatOps.ofBits (F := Ideal) .f32 0x00000000#32))
      (FloatOps.ofBits (F := Ideal) .f32 0x00000000#32) l = l := fun l => by
    generalize FloatOps.ofBits (F := Ideal) .f32 0x00000000#32 = z
    show Scalar.select (BitVec.ofBool (decide (l = z))) z l = l
    by_cases h : l = z
    · rw [decide_eq_true h, h]; exact ite_self _
    · rw [decide_eq_false h]; rfl
  unfold comparator_f32_i32_d1
  simp only [hn, hz]
  show (BitVec.ofBool (decide (a < b)) == 1#1) = _
  by_cases h : a < b
  · simp [h]
  · simp [h]

/-- The second sort's comparison, of words of places, is the order of the places. -/
theorem before_place (p q : Fin 784) (u v : BitVec 32) :
    (comparator_i32_i32_d1 (BitVec.ofNat 32 p.val, u) (BitVec.ofNat 32 q.val, v) == 1#1) = decide (p.val < q.val) := by
  have h : comparator_i32_i32_d1 (BitVec.ofNat 32 p.val, u) (BitVec.ofNat 32 q.val, v) = BitVec.ofBool (decide (p < q)) :=
    Cert.KernelIdeal.Hand.slt_ofNat p q
  rw [h]
  by_cases hpq : p.val < q.val
  · simp [Fin.lt_def, hpq]
  · simp [Fin.lt_def, hpq]

/-- Another place of the same row. -/
theorem along_row (b : Fin 4) (q k : Fin 784) : Shape.Idx.along (s := S4x784) (ix2 b q) 1 k = ix2 b k := by
  funext a
  match a with
  | ⟨0, _⟩ => rfl
  | ⟨1, _⟩ => rfl

/-- A stable sort of two arrays along their rows, the second array at a place: its entry at the place of the row
    that the row's sort puts there. -/
theorem sort2_row {α β : Type} (cmp : α × β → α × β → BitVec 1) (x : S4x784.Idx → α) (y : S4x784.Idx → β) (b : Fin 4)
    (q : Fin 784) : (Host.sort2 S4x784 1 cmp x y).2 (ix2 b q) = y (ix2 b (sortedFrom (n := 784) (fun p p' =>
      cmp (x (ix2 b p), y (ix2 b p)) (x (ix2 b p'), y (ix2 b p')) == 1#1) q)) := by
  unfold Host.sort2
  rw [dif_pos (show 1 < S4x784.rank by decide)]
  show y (Shape.Idx.along (s := S4x784) (ix2 b q) 1 (sortedFrom (n := 784) (fun p p' =>
      cmp (x (Shape.Idx.along (s := S4x784) (ix2 b q) 1 p), y (Shape.Idx.along (s := S4x784) (ix2 b q) 1 p))
        (x (Shape.Idx.along (s := S4x784) (ix2 b q) 1 p'), y (Shape.Idx.along (s := S4x784) (ix2 b q) 1 p')) == 1#1) q)) = _
  simp only [along_row]

/-- The word carried by a place is the place. -/
theorem iota_row (b : Fin 4) (p : Fin 784) : iotaInDim S4x784 32 1 (ix2 b p) = BitVec.ofNat 32 p.val := rfl

/-- The first argsort at a place: the place whose entry comes there in the row's order. -/
theorem order1_apply (a1 : S4x784.Idx → EReal) (b : Fin 4) (k : Fin 784) :
    order1 a1 (ix2 b k) = BitVec.ofNat 32 (byEntry (fun q => a1 (ix2 b q)) k).val := by
  rw [order1, sort2_row]
  simp only [iota_row, before_entry]

/-- The second argsort, of the first, at a place: the rank of the place's entry in its row. -/
theorem order2_apply (a1 : S4x784.Idx → EReal) (b : Fin 4) (q : Fin 784) :
    order2 (order1 a1) (ix2 b q) = BitVec.ofNat 32 (rank (fun q => a1 (ix2 b q)) q) := by
  rw [order2, sort2_row]
  simp only [iota_row, order1_apply, before_place, sort_twice]

/-! ## The gather of the mask -/

/-- The gather at a place: the row's entry at the place's word, read signed and kept in range. -/
theorem gather_apply (x : S4x784.Idx → EReal) (w : IVec S4x784x1 32) (b : Fin 4) (q : Fin 784) :
    Host.gather gather_S4x784_S4x784x1_S4x784_n_1_0_0_1_2_11 x w (ix2 b q)
      = x (ix2 b ⟨min (w (ix3 b q 0)).toInt.toNat 783, by omega⟩) := by
  unfold Host.gather
  congr 1
  funext a
  refine Fin.ext ?_
  show gather_S4x784_S4x784x1_S4x784_n_1_0_0_1_2_11.start (ix2 b q) w a
      + gather_S4x784_S4x784x1_S4x784_n_1_0_0_1_2_11.batchCoord (ix2 b q) a
      + gather_S4x784_S4x784x1_S4x784_n_1_0_0_1_2_11.offCoord (ix2 b q) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S4x784_S4x784x1_S4x784_n_1_0_0_1_2_11.operandBatchingDims from List.mem_singleton.mpr rfl)]
    rfl
  · rw [GatherDims.batchCoord_eq_zero _ _ _ (show (1 : Fin 2) ∉ [(0 : Fin 2)] by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S4x784_S4x784x1_S4x784_n_1_0_0_1_2_11.startIndexMap from List.mem_singleton.mpr rfl)]
    have hsi : ∀ c, gather_S4x784_S4x784x1_S4x784_n_1_0_0_1_2_11.siIdx (ix2 b q) c = ix3 b q 0 := by
      intro c
      funext e; refine Fin.ext ?_
      match e with
      | ⟨0, _⟩ => rfl
      | ⟨1, _⟩ => rfl
      | ⟨2, _⟩ => show c.val = 0; have : c.val < 1 := c.isLt; omega
    rw [hsi]
    rfl

/-- The words of the gather, at a place whose word is a place's: that word. -/
theorem wrapped_apply (k : IVec S4x784 32) (b : Fin 4) (q : Fin 784) (z : Fin 1) (r : Nat) (hr : r < 784)
    (hk : k (ix2 b q) = BitVec.ofNat 32 r) : wrapped k (ix3 b q z) = BitVec.ofNat 32 r := by
  unfold wrapped
  pointwise
  rw [hk]
  have h : IntOp.cmpi .slt (BitVec.ofNat 32 r) 0#32 = 0#1 := by
    show BitVec.ofBool (BitVec.slt _ _) = _
    rw [BitVec.slt_eq_decide, toInt_ofNat_small _ (by omega), decide_eq_false (by rw [BitVec.toInt_zero]; omega)]
    rfl
  rw [h]
  rfl

/-- The mask in rank order, read at a place. -/
theorem kept2_apply (b : Fin 4) (r : Fin 784) : kept2 (ix2 b r) = if r.val < 196 then 1 else 0 := by
  unfold kept2
  pointwise
  have h : IntOp.cmpi .slt (BitVec.ofNat 32 r.val) 196#32 = BitVec.ofBool (decide (r.val < 196)) :=
    Cert.KernelIdeal.Hand.slt_ofNat r 196
  rw [h]
  show ((((BitVec.ofBool (decide (r.val < 196))).toNat : ℝ)) : EReal) = _
  by_cases hr : r.val < 196
  · simp [hr]
  · simp [hr]

/-- The mask at a place whose word is `r`: 1 where `r` is among the first 196, else 0. -/
theorem refMask_apply (k : IVec S4x784 32) (b : Fin 4) (q : Fin 784) (r : Nat) (hr : r < 784)
    (hk : k (ix2 b q) = BitVec.ofNat 32 r) : refMask k (ix2 b q) = if r < 196 then 1 else 0 := by
  unfold refMask
  pointwise
  have hw := fun z => wrapped_apply k b q z r hr hk
  have h0 : IntOp.cmpi .sge (BitVec.ofNat 32 r) 0#32 = 1#1 := by
    show BitVec.ofBool (BitVec.sle (BitVec.ofNat 32 0) _) = _
    rw [BitVec.sle_eq_decide, toInt_ofNat_small _ (by omega), toInt_ofNat_small _ (by omega), decide_eq_true (by omega)]
    rfl
  have h1 : IntOp.cmpi .sle (BitVec.ofNat 32 r) 783#32 = 1#1 := by
    show BitVec.ofBool (BitVec.sle _ (BitVec.ofNat 32 783)) = _
    rw [BitVec.sle_eq_decide, toInt_ofNat_small _ (by omega), toInt_ofNat_small _ (by omega), decide_eq_true (by omega)]
    rfl
  have hg : Host.gather gather_S4x784_S4x784x1_S4x784_n_1_0_0_1_2_11 kept2 (wrapped k) (ix2 b q) = kept2 (ix2 b ⟨r, hr⟩) := by
    rw [gather_apply]
    refine congrArg (fun p => kept2 (ix2 b p)) (Fin.ext ?_)
    show min (wrapped k (ix3 b q 0)).toInt.toNat 783 = r
    rw [hw, toInt_ofNat_small _ (by omega)]
    omega
  simp only [hw, h0, h1]
  rw [hg, kept2_apply]
  have hf : Finset.fold IntOp.andi (1#1) (fun _ : Fin 1 => IntOp.andi (1#1) (1#1)) Finset.univ = 1#1 := by decide
  exact congrArg (fun w => Scalar.select w (if r < 196 then (1 : EReal) else 0) _) hf

/-- The masked image at a pixel: the pixel times the mask entry of its patch. -/
theorem refImg_apply (a0 : S4x192x224x224.Idx → EReal) (mk : FVec Ideal S4x784 .f32) (b : Fin 4) (ch : Fin 192) (i j : Fin 224) :
    refImg a0 mk (ix4 b ch i j) = a0 (ix4 b ch i j) * mk (ix2 b (Cert.KernelIdeal.Hand.patchOf i j)) := by
  unfold refImg
  pointwise
  refine congrArg (fun p => a0 (ix4 b ch i j) * mk (ix2 b p)) (Fin.ext ?_)
  show i.val / 8 * 28 + j.val / 8 = 28 * (i.val / 8) + j.val / 8
  omega

variable (m : (ℓ : Loc nD τ sig) → Buf (Elt Ideal) ℓ) (ρ : Dev nD → PrngReg)

/-- The reference's mask is the kernel's. -/
theorem mask_eq (a1 : S4x784.Idx → EReal) : refMask (order2 (order1 a1)) = Cert.KernelIdeal.Hand.maskOf a1 := by
  funext i
  rw [← ix2_eta i]
  exact refMask_apply _ _ _ _ (rank_lt _ _) (order2_apply a1 _ _)

/-- The reference's masked images are the kernel's. -/
theorem img_eq (a0 : S4x192x224x224.Idx → EReal) (a1 : S4x784.Idx → EReal) :
    refImg a0 (refMask (order2 (order1 a1))) = Cert.KernelIdeal.Hand.maskedOf a0 a1 := by
  funext i
  rw [mask_eq, ← ix4_eta i]
  exact refImg_apply _ _ _ _ _ _

/-- THE REFERENCE'S RUN, READ: every run ends with the masked images and the mask in the two results, the
    arguments unchanged. -/
theorem run_value :
    θ_run defs (onTc (τ := τ) (main (F := Ideal))) ⟨m, fun _ => 0, ρ⟩ fun r => ∀ c : Dev nD,
      r.2.mem ((c.tc : Thread nD τ).loc main_v17) = Cert.KernelIdeal.Hand.maskedOf (m ((c.tc : Thread nD τ).loc main_arg0)) (m ((c.tc : Thread nD τ).loc main_arg1))
      ∧ r.2.mem ((c.tc : Thread nD τ).loc main_v11) = Cert.KernelIdeal.Hand.maskOf (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun r h c => ⟨(h c).1.trans (img_eq _ _), (h c).2.1.trans (mask_eq _), (h c).2.2.1, (h c).2.2.2⟩)
    (run_named m ρ)

end Cert.ReferenceIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KValue
public import proofs.«01_k».proof.Proof.PFrame
public import proofs.«01_k».proof.Proof.RFrame
public import proofs.«01_k».proof.Proof.RValue
public import Idealize.ShloMosaic.Adequacy
public import Idealize.ShloMosaic.Init

@[expose] public section

noncomputable section

namespace Cert.Proof

open Idealize.ShloMosaic Idealize.SL.Sem Cert.Kernel

/-- The idealized kernel and the idealized reference, started with the same arguments, end with the same masked
    images and the same mask. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨_, _, Cert.KernelIdeal.Hand.run_value m g,
    (θ_run _ _ _).mono (fun r h c => ?_) (Cert.ReferenceIdeal.Hand.run_value m' g')⟩
  obtain ⟨h0, h1, h2, h3⟩ := h c
  rw [(hagree c).1, (hagree c).2] at h0
  rw [(hagree c).2] at h1
  exact ⟨h0, h1, h2, h3⟩

/-- Everything that is claimed. -/
theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ,
  fun m ρ _ => Cert.ReferenceIdeal.Hand.frame m ρ, trivial, algebraic⟩

end Cert.Proof

end
